-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x64x129 : Shape := ⟨3, ![64, 64, 129]⟩
abbrev S64 : Shape := ⟨1, ![64]⟩
abbrev S64x2048 : Shape := ⟨2, ![64, 2048]⟩
abbrev S64x1x2048 : Shape := ⟨3, ![64, 1, 2048]⟩
abbrev S64x129x64 : Shape := ⟨3, ![64, 129, 64]⟩
abbrev S1x64 : Shape := ⟨2, ![1, 64]⟩
abbrev S1x1x2048 : Shape := ⟨3, ![1, 1, 2048]⟩
abbrev S1x129x64 : Shape := ⟨3, ![1, 129, 64]⟩
abbrev S1x2048 : Shape := ⟨2, ![1, 2048]⟩
abbrev S129x2048 : Shape := ⟨2, ![129, 2048]⟩
abbrev S129x64 : Shape := ⟨2, ![129, 64]⟩

abbrev nBuf : Space → Nat
  | .hbm => 10
  | .vmem => 9
  | .smem => 0
  | _ => 0

abbrev bufTy : (tb : Table) → Fin (tcTables nBuf tb) → BufTy
  | .hbm, ⟨0, _⟩ => ⟨S2048x64, .f32⟩
  | .hbm, ⟨1, _⟩ => ⟨S64x64x129, .f32⟩
  | .hbm, ⟨2, _⟩ => ⟨S64, .f32⟩
  | .hbm, ⟨3, _⟩ => ⟨S64, .f32⟩
  | .hbm, ⟨4, _⟩ => ⟨S64x2048, .f32⟩
  | .hbm, ⟨5, _⟩ => ⟨S64x1x2048, .f32⟩
  | .hbm, ⟨6, _⟩ => ⟨S64x129x64, .f32⟩
  | .hbm, ⟨7, _⟩ => ⟨S1x64, .f32⟩
  | .hbm, ⟨8, _⟩ => ⟨S1x64, .f32⟩
  | .hbm, ⟨9, _⟩ => ⟨S2048x64, .f32⟩
  | .local _ .vmem, ⟨0, _⟩ => ⟨S1x1x2048, .f32⟩
  | .local _ .vmem, ⟨1, _⟩ => ⟨S1x1x2048, .f32⟩
  | .local _ .vmem, ⟨2, _⟩ => ⟨S1x129x64, .f32⟩
  | .local _ .vmem, ⟨3, _⟩ => ⟨S1x129x64, .f32⟩
  | .local _ .vmem, ⟨4, _⟩ => ⟨S1x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32_29 : BitVec 32 := 63#32
  let v80 : BitVec 1 := Scalar.cmpi .eq arg0 c63_i32_29
  let v81 : BitVec 32 := Scalar.extui v80
  let c0_i32_30 : BitVec 32 := 0#32
  let v82 : BitVec 1 := Scalar.cmpi .ne v81 c0_i32_30
  v82

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x129x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x64 : Shape := ⟨2, ![2048, 64]⟩
abbrev S64x64x129 : Shape := ⟨3, ![64, 64, 129]⟩
abbrev S64 : Shape := ⟨1, ![64]⟩
abbrev S3 : Shape := ⟨1, ![3]⟩
abbrev S_ : Shape := ⟨0, ![]⟩
abbrev S131072 : Shape := ⟨1, ![131072]⟩
abbrev S131072x1 : Shape := ⟨2, ![131072, 1]⟩
abbrev S1x3 : Shape := ⟨2, ![1, 3]⟩
abbrev S131072x3 : Shape := ⟨2, ![131072, 3]⟩
abbrev S393216 : Shape := ⟨1, ![393216]⟩
abbrev S393216x1 : Shape := ⟨2, ![393216, 1]⟩
abbrev S393216x2 : Shape := ⟨2, ![393216, 2]⟩
abbrev S64x393216 : Shape := ⟨2, ![64, 393216]⟩
abbrev S64x2048x64x3 : Shape := ⟨4, ![64, 2048, 64, 3]⟩
abbrev S2048x64x64x3 : Shape := ⟨4, ![2048, 64, 64, 3]⟩
abbrev S1 : Shape := ⟨1, ![1]⟩
abbrev S1x2048x64 : Shape := ⟨3, ![1, 2048, 64]⟩
abbrev S3x2048x64 : Shape := ⟨3, ![3, 2048, 64]⟩
abbrev S2048x64x64 : Shape := ⟨3, ![2048, 64, 64]⟩
abbrev S2048x32x64 : Shape := ⟨3, ![2048, 32, 64]⟩
abbrev S2048x16x64 : Shape := ⟨3, ![2048, 16, 64]⟩
abbrev S2048x8x64 : Shape := ⟨3, ![2048, 8, 64]⟩
abbrev S2048x4x64 : Shape := ⟨3, ![2048, 4, 64]⟩
abbrev S2048x2x64 : Shape := ⟨3, ![2048, 2, 64]⟩
abbrev S2048x1x64 : Shape := ⟨3, ![2048, 1, 64]⟩
abbrev S1x64 : Shape := ⟨2, ![1, 64]⟩

abbrev nBuf : Space → Nat
  | .hbm => 229
  | .vmem => 0
  | .smem => 0
  | _ => 0

abbrev hbmTy0_0 (i : Nat) : BufTy := match i % 128 with
  | 0 => ⟨S2048x64, .f32⟩
  | 1 => ⟨S64x64x129, .f32⟩
  | 2 => ⟨S64, .f32⟩
  | 3 => ⟨S64, .f32⟩
  | 4 => ⟨S3, .f32⟩
  | 5 => ⟨S_, .f32⟩
  | 6 => ⟨S2048x64, .f32⟩
  | 7 => ⟨S2048x64, .f32⟩
  | 8 => ⟨S_, .f32⟩
  | 9 => ⟨S2048x64, .f32⟩
  | 10 => ⟨S2048x64, .f32⟩
  | 11 => ⟨S_, .f32⟩
  | 12 => ⟨S2048x64, .f32⟩
  | 13 => ⟨S2048x64, .f32⟩
  | 14 => ⟨S2048x64, .i32⟩
  | 15 => ⟨S_, .i32⟩
  | 16 => ⟨S_, .i32⟩
  | 17 => ⟨S_, .i32⟩
  | 18 => ⟨S2048x64, .i32⟩
  | 19 => ⟨S2048x64, .i32⟩
  | 20 => ⟨S_, .i32⟩
  | 21 => ⟨S2048x64, .i32⟩
  | 22 => ⟨S2048x64, .i32⟩
  | 23 => ⟨S_, .i32⟩
  | 24 => ⟨S2048x64, .i32⟩
  | 25 => ⟨S2048x64, .i32⟩
  | 26 => ⟨S_, .i32⟩
  | 27 => ⟨S2048x64, .i32⟩
  | 28 => ⟨S2048x64, .i32⟩
  | 29 => ⟨S131072, .i32⟩
  | 30 => ⟨S131072x1, .i32⟩
  | 31 => ⟨S3, .i32⟩
  | 32 => ⟨S1x3, .i32⟩
  | 33 => ⟨S131072x3, .i32⟩
  | 34 => ⟨S131072x3, .i32⟩
  | 35 => ⟨S131072x3, .i32⟩
  | 36 => ⟨S393216, .i32⟩
  | 37 => ⟨S_, .i32⟩
  | 38 => ⟨S_, .i32⟩
  | 39 => ⟨S393216, .i32⟩
  | 40 => ⟨S393216, .i32⟩
  | 41 => ⟨S393216, .i32⟩
  | 42 => ⟨S_, .i32⟩
  | 43 => ⟨S393216, .i32⟩
  | 44 => ⟨S393216, .i1⟩
  | 45 => ⟨S393216, .i32⟩
  | 46 => ⟨S393216, .i32⟩
  | 47 => ⟨S_, .i32⟩
  | 48 => ⟨S393216, .i32⟩
  | 49 => ⟨S393216, .i1⟩
  | 50 => ⟨S393216, .i1⟩
  | 51 => ⟨S_, .i32⟩
  | 52 => ⟨S393216, .i32⟩
  | 53 => ⟨S393216, .i32⟩
  | 54 => ⟨S393216, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S393216, .i32⟩
  | 62 => ⟨S393216, .i32⟩
  | 63 => ⟨S_, .i32⟩
  | 64 => ⟨S393216, .i32⟩
  | 65 => ⟨S393216, .i1⟩
  | 66 => ⟨S_, .i32⟩
  | 67 => ⟨S393216, .i32⟩
  | 68 => ⟨S393216, .i1⟩
  | 69 => ⟨S_, .i32⟩
  | 70 => ⟨S_, .i1⟩
  | 71 => ⟨S393216, .i1⟩
  | 72 => ⟨S393216, .i1⟩
  | 73 => ⟨S393216, .i1⟩
  | 74 => ⟨S393216, .i32⟩
  | 75 => ⟨S393216, .i32⟩
  | 76 => ⟨S393216, .i32⟩
  | 77 => ⟨S393216, .i32⟩
  | 78 => ⟨S_, .i32⟩
  | 79 => ⟨S393216, .i32⟩
  | 80 => ⟨S393216, .i1⟩
  | 81 => ⟨S_, .i32⟩
  | 82 => ⟨S393216, .i32⟩
  | 83 => ⟨S393216, .i32⟩
  | 84 => ⟨S393216, .i32⟩
  | 85 => ⟨S_, .i32⟩
  | 86 => ⟨S393216, .i32⟩
  | 87 => ⟨S393216, .i1⟩
  | 88 => ⟨S_, .i32⟩
  | 89 => ⟨S393216, .i32⟩
  | 90 => ⟨S393216, .i32⟩
  | 91 => ⟨S393216, .i32⟩
  | 92 => ⟨S393216x1, .i32⟩
  | 93 => ⟨S393216x1, .i32⟩
  | 94 => ⟨S393216x2, .i32⟩
  | 95 => ⟨S64x393216, .f32⟩
  | 96 => ⟨S64x2048x64x3, .f32⟩
  | 97 => ⟨S2048x64x64x3, .f32⟩
  | 98 => ⟨S2048x64, .f32⟩
  | 99 => ⟨S_, .f32⟩
  | 100 => ⟨S2048x64, .f32⟩
  | 101 => ⟨S2048x64, .f32⟩
  | 102 => ⟨S_, .f32⟩
  | 103 => ⟨S2048x64, .f32⟩
  | 104 => ⟨S2048x64, .f32⟩
  | 105 => ⟨S_, .f32⟩
  | 106 => ⟨S2048x64, .f32⟩
  | 107 => ⟨S2048x64, .f32⟩
  | 108 => ⟨S2048x64, .f32⟩
  | 109 => ⟨S_, .f32⟩
  | 110 => ⟨S2048x64, .f32⟩
  | 111 => ⟨S2048x64, .f32⟩
  | 112 => ⟨S_, .f32⟩
  | 113 => ⟨S2048x64, .f32⟩
  | 114 => ⟨S2048x64, .f32⟩
  | 115 => ⟨S_, .f32⟩
  | 116 => ⟨S2048x64, .f32⟩
  | 117 => ⟨S2048x64, .f32⟩
  | 118 => ⟨S2048x64, .f32⟩
  | 119 => ⟨S2048x64, .f32⟩
  | 120 => ⟨S2048x64, .f32⟩
  | 121 => ⟨S_, .f32⟩
  | 122 => ⟨S2048x64, .f32⟩
  | 123 => ⟨S2048x64, .f32⟩
  | 124 => ⟨S_, .f32⟩
  | 125 => ⟨S2048x64, .f32⟩
  | 126 => ⟨S2048x64, .f32⟩
  | 127 => ⟨S1, .f32⟩
  | _ => ⟨S2048x64, .f32⟩

abbrev hbmTy0_1 (i : Nat) : BufTy := match i % 128 with
  | 0 => ⟨S_, .f32⟩
  | 1 => ⟨S2048x64, .f32⟩
  | 2 => ⟨S2048x64, .f32⟩
  | 3 => ⟨S1, .f32⟩
  | 4 => ⟨S_, .f32⟩
  | 5 => ⟨S1, .f32⟩
  | 6 => ⟨S_, .f32⟩
  | 7 => ⟨S_, .f32⟩
  | 8 => ⟨S2048x64, .f32⟩
  | 9 => ⟨S2048x64, .f32⟩
  | 10 => ⟨S1, .f32⟩
  | 11 => ⟨S_, .f32⟩
  | 12 => ⟨S2048x64, .f32⟩
  | 13 => ⟨S2048x64, .f32⟩
  | 14 => ⟨S1, .f32⟩
  | 15 => ⟨S_, .f32⟩
  | 16 => ⟨S1, .f32⟩
  | 17 => ⟨S_, .f32⟩
  | 18 => ⟨S_, .f32⟩
  | 19 => ⟨S2048x64, .f32⟩
  | 20 => ⟨S2048x64, .f32⟩
  | 21 => ⟨S2048x64, .f32⟩
  | 22 => ⟨S1, .f32⟩
  | 23 => ⟨S_, .f32⟩
  | 24 => ⟨S2048x64, .f32⟩
  | 25 => ⟨S2048x64, .f32⟩
  | 26 => ⟨S1, .f32⟩
  | 27 => ⟨S_, .f32⟩
  | 28 => ⟨S1, .f32⟩
  | 29 => ⟨S_, .f32⟩
  | 30 => ⟨S_, .f32⟩
  | 31 => ⟨S2048x64, .f32⟩
  | 32 => ⟨S2048x64, .f32⟩
  | 33 => ⟨S1, .f32⟩
  | 34 => ⟨S_, .f32⟩
  | 35 => ⟨S2048x64, .f32⟩
  | 36 => ⟨S2048x64, .f32⟩
  | 37 => ⟨S1, .f32⟩
  | 38 => ⟨S_, .f32⟩
  | 39 => ⟨S1, .f32⟩
  | 40 => ⟨S_, .f32⟩
  | 41 => ⟨S_, .f32⟩
  | 42 => ⟨S2048x64, .f32⟩
  | 43 => ⟨S2048x64, .f32⟩
  | 44 => ⟨S2048x64, .f32⟩
  | 45 => ⟨S1, .f32⟩
  | 46 => ⟨S_, .f32⟩
  | 47 => ⟨S2048x64, .f32⟩
  | 48 => ⟨S2048x64, .f32⟩
  | 49 => ⟨S1, .f32⟩
  | 50 => ⟨S_, .f32⟩
  | 51 => ⟨S1, .f32⟩
  | 52 => ⟨S_, .f32⟩
  | 53 => ⟨S_, .f32⟩
  | 54 => ⟨S2048x64, .f32⟩
  | 55 => ⟨S2048x64, .f32⟩
  | 56 => ⟨S1, .f32⟩
  | 57 => ⟨S_, .f32⟩
  | 58 => ⟨S2048x64, .f32⟩
  | 59 => ⟨S2048x64, .f32⟩
  | 60 => ⟨S1, .f32⟩
  | 61 => ⟨S_, .f32⟩
  | 62 => ⟨S1, .f32⟩
  | 63 => ⟨S_, .f32⟩
  | 64 => ⟨S_, .f32⟩
  | 65 => ⟨S2048x64, .f32⟩
  | 66 => ⟨S2048x64, .f32⟩
  | 67 => ⟨S2048x64, .f32⟩
  | 68 => ⟨S1x2048x64, .f32⟩
  | 69 => ⟨S1x2048x64, .f32⟩
  | 70 => ⟨S1x2048x64, .f32⟩
  | 71 => ⟨S3x2048x64, .f32⟩
  | 72 => ⟨S2048x64x64, .f32⟩
  | 73 => ⟨S_, .f32⟩
  | 74 => ⟨S2048x64, .f32⟩
  | 75 => ⟨S2048x32x64, .f32⟩
  | 76 => ⟨S2048x32x64, .f32⟩
  | 77 => ⟨S2048x32x64, .f32⟩
  | 78 => ⟨S2048x16x64, .f32⟩
  | 79 => ⟨S2048x16x64, .f32⟩
  | 80 => ⟨S2048x16x64, .f32⟩
  | 81 => ⟨S2048x8x64, .f32⟩
  | 82 => ⟨S2048x8x64, .f32⟩
  | 83 => ⟨S2048x8x64, .f32⟩
  | 84 => ⟨S2048x4x64, .f32⟩
  | 85 => ⟨S2048x4x64, .f32⟩
  | 86 => ⟨S2048x4x64, .f32⟩
  | 87 => ⟨S2048x2x64, .f32⟩
  | 88 => ⟨S2048x2x64, .f32⟩
  | 89 => ⟨S2048x2x64, .f32⟩
  | 90 => ⟨S2048x1x64, .f32⟩
  | 91 => ⟨S2048x1x64, .f32⟩
  | 92 => ⟨S2048x1x64, .f32⟩
  | 93 => ⟨S2048x64, .f32⟩
  | 94 => ⟨S1x64, .f32⟩
  | 95 => ⟨S2048x64, .f32⟩
  | 96 => ⟨S2048x64, .f32⟩
  | 97 => ⟨S1x64, .f32⟩
  | 98 => ⟨S2048x64, .f32⟩
  | 99 => ⟨S2048x64, .f32⟩
  | 100 => ⟨S2048x64, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_c_5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v20 : Ref sig .tc := ⟨.hbm, 54, rfl⟩
abbrev main_c_7 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v21 : Ref sig .tc := ⟨.hbm, 76, rfl⟩
abbrev main_v22 : Ref sig .tc := ⟨.hbm, 77, rfl⟩
abbrev main_c_8 : Ref sig .tc := ⟨.hbm, 78, rfl⟩
abbrev main_v23 : Ref sig .tc := ⟨.hbm, 79, rfl⟩
abbrev main_v24 : Ref sig .tc := ⟨.hbm, 80, rfl⟩
abbrev main_c_9 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_10 : Ref sig .tc := ⟨.hbm, 85, rfl⟩
abbrev main_v28 : Ref sig .tc := ⟨.hbm, 86, rfl⟩
abbrev main_v29 : Ref sig .tc := ⟨.hbm, 87, rfl⟩
abbrev main_c_11 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_12 : Ref sig .tc := ⟨.hbm, 99, rfl⟩
abbrev main_v40 : Ref sig .tc := ⟨.hbm, 100, rfl⟩
abbrev main_v41 : Ref sig .tc := ⟨.hbm, 101, rfl⟩
abbrev main_cst_13 : Ref sig .tc := ⟨.hbm, 102, rfl⟩
abbrev main_v42 : Ref sig .tc := ⟨.hbm, 103, rfl⟩
abbrev main_v43 : Ref sig .tc := ⟨.hbm, 104, rfl⟩
abbrev main_cst_14 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_15 : Ref sig .tc := ⟨.hbm, 109, rfl⟩
abbrev main_v47 : Ref sig .tc := ⟨.hbm, 110, rfl⟩
abbrev main_v48 : Ref sig .tc := ⟨.hbm, 111, rfl⟩
abbrev main_cst_16 : Ref sig .tc := ⟨.hbm, 112, rfl⟩
abbrev main_v49 : Ref sig .tc := ⟨.hbm, 113, rfl⟩
abbrev main_v50 : Ref sig .tc := ⟨.hbm, 114, rfl⟩
abbrev main_cst_17 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_18 : Ref sig .tc := ⟨.hbm, 121, rfl⟩
abbrev main_v56 : Ref sig .tc := ⟨.hbm, 122, rfl⟩
abbrev main_v57 : Ref sig .tc := ⟨.hbm, 123, rfl⟩
abbrev main_cst_19 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_20 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩

abbrev nD : Nat := 1
abbrev τ : Topo := Topo.v7x

variable {F : FTy → Type} [FloatOps F]
-- ==== Proof.Curve.lean ====
module

public import Idealize.ShloMosaic.Lib.Pointwise
public import Idealize.ShloMosaic.Lib.IdealHost
public import Idealize.ShloMosaic.Lib.WordCmp

/-! The piecewise quadratic curve that both programs evaluate, on the extended reals.

The interval from -1 to 1 is cut into 64 segments.  A point `x` lies in segment `word x`, has the local
coordinate `loc x` there, and three quadratic coefficients of that coordinate weigh three neighbouring
entries of a row of 129 weights.  The lemmas here are about one number at a time. -/

@[expose] public section

noncomputable section

open Idealize.ShloMosaic

namespace Curve

/-! ## The printed constants -/

/-- The pattern of two is the extended real two. -/
theorem two_eq : Ideal.ofBits .f32 1073741824#32 = ((2 : ℝ) : EReal) := by
  simp [Ideal.ofBits, Ideal.ieee, -EReal.coe_mul]; norm_num

/-- The pattern of one half is the extended real one half. -/
theorem half_eq : Ideal.ofBits .f32 1056964608#32 = ((1 / 2 : ℝ) : EReal) := by
  simp [Ideal.ofBits, Ideal.ieee, -EReal.coe_mul]; norm_num

/-- The pattern of minus one is the extended real minus one. -/
theorem negOne_eq : Ideal.ofBits .f32 3212836864#32 = ((-1 : ℝ) : EReal) := by
  simp [Ideal.ofBits, Ideal.ieee, -EReal.coe_mul, -EReal.coe_neg]; norm_num

/-- The pattern of zero is the extended real zero. -/
theorem zero_eq : Ideal.ofBits .f32 0#32 = ((0 : ℝ) : EReal) := by
  simp [Ideal.ofBits, Ideal.ieee]

/-- The pattern of one is the extended real one. -/
theorem one_eq : Ideal.ofBits .f32 1065353216#32 = ((1 : ℝ) : EReal) := by
  simp [Ideal.ofBits, Ideal.ieee, -EReal.coe_mul]; norm_num

/-! ## Coefficients -/

/-- The weight of a segment's left end at local coordinate `t`. -/
def left (t : EReal) : EReal := Ideal.ofBits .f32 1056964608#32 * t * (t - 1)

/-- The weight of a segment's middle at local coordinate `t`. -/
def middle (t : EReal) : EReal := 1 - t * t

/-- The weight of a segment's right end at local coordinate `t`. -/
def right (t : EReal) : EReal := Ideal.ofBits .f32 1056964608#32 * t * (t + 1)

/-- Dividing by a nonzero real multiplies by its inverse. -/
theorem div_real (x : EReal) {r : ℝ} (hr : r ≠ 0) : Ideal.div x (r : EReal) = x * ((r⁻¹ : ℝ) : EReal) := by
  rw [Ideal.div, if_neg (by exact_mod_cast hr), EReal.coe_inv]

/-- The interpolation basis polynomial of the left end, over the nodes -1, 0 and 1, is its weight. -/
theorem left_basis (t : EReal) :
    Ideal.div (t - ((0 : ℝ) : EReal)) (((-1 : ℝ) : EReal) - ((0 : ℝ) : EReal)) * Ideal.div (t - ((1 : ℝ) : EReal)) (((-1 : ℝ) : EReal) - ((1 : ℝ) : EReal))
      = left t := by
  rw [← EReal.coe_sub, ← EReal.coe_sub, div_real _ (by norm_num), div_real _ (by norm_num), left, half_eq, ← EReal.coe_one]
  induction t with
  | bot =>
    rw [EReal.bot_sub, EReal.bot_sub, EReal.bot_mul_coe_of_neg (by norm_num), EReal.bot_mul_coe_of_neg (by norm_num),
      EReal.coe_mul_bot_of_pos (by norm_num), EReal.bot_mul_bot, EReal.top_mul_top]
  | top =>
    rw [EReal.top_sub_coe, EReal.top_sub_coe, EReal.top_mul_coe_of_neg (by norm_num), EReal.top_mul_coe_of_neg (by norm_num),
      EReal.coe_mul_top_of_pos (by norm_num), EReal.bot_mul_bot, EReal.top_mul_top]
  | coe r =>
    simp only [← EReal.coe_add, ← EReal.coe_sub, ← EReal.coe_mul, EReal.coe_eq_coe_iff]
    ring

/-- The interpolation basis polynomial of the middle, over the nodes -1, 0 and 1, is its weight. -/
theorem middle_basis (t : EReal) :
    Ideal.div (t - ((-1 : ℝ) : EReal)) (((0 : ℝ) : EReal) - ((-1 : ℝ) : EReal)) * Ideal.div (t - ((1 : ℝ) : EReal)) (((0 : ℝ) : EReal) - ((1 : ℝ) : EReal))
      = middle t := by
  rw [← EReal.coe_sub, ← EReal.coe_sub, div_real _ (by norm_num), div_real _ (by norm_num), middle, ← EReal.coe_one]
  induction t with
  | bot =>
    rw [EReal.bot_sub, EReal.bot_sub, EReal.bot_mul_coe_of_pos (by norm_num), EReal.bot_mul_coe_of_neg (by norm_num),
      EReal.bot_mul_bot, EReal.bot_mul_top, sub_eq_add_neg (_ : EReal) ⊤, EReal.neg_top, EReal.add_bot]
  | top =>
    rw [EReal.top_sub_coe, EReal.top_sub_coe, EReal.top_mul_coe_of_pos (by norm_num), EReal.top_mul_coe_of_neg (by norm_num),
      EReal.top_mul_top, EReal.top_mul_bot, sub_eq_add_neg (_ : EReal) ⊤, EReal.neg_top, EReal.add_bot]
  | coe r =>
    simp only [← EReal.coe_add, ← EReal.coe_sub, ← EReal.coe_mul, EReal.coe_eq_coe_iff]
    ring

/-- The interpolation basis polynomial of the right end, over the nodes -1, 0 and 1, is its weight. -/
theorem right_basis (t : EReal) :
    Ideal.div (t - ((-1 : ℝ) : EReal)) (((1 : ℝ) : EReal) - ((-1 : ℝ) : EReal)) * Ideal.div (t - ((0 : ℝ) : EReal)) (((1 : ℝ) : EReal) - ((0 : ℝ) : EReal))
      = right t := by
  rw [← EReal.coe_sub, ← EReal.coe_sub, div_real _ (by norm_num), div_real _ (by norm_num), right, half_eq, ← EReal.coe_one]
  induction t with
  | bot =>
    rw [EReal.bot_sub, EReal.bot_sub, EReal.bot_mul_coe_of_pos (by norm_num), EReal.bot_mul_coe_of_pos (by norm_num),
      EReal.coe_mul_bot_of_pos (by norm_num), EReal.bot_add]
  | top =>
    rw [EReal.top_sub_coe, EReal.top_sub_coe, EReal.top_mul_coe_of_pos (by norm_num), EReal.top_mul_coe_of_pos (by norm_num),
      EReal.coe_mul_top_of_pos (by norm_num), EReal.top_add_coe]
  | coe r =>
    simp only [← EReal.coe_add, ← EReal.coe_sub, ← EReal.coe_mul, EReal.coe_eq_coe_iff]
    ring

/-! ## The segment of a point -/

/-- The segment of `x` as a word: `(x + 1) / 2 * 64` made an integer and clipped to 0 … 63. -/
def word (x : EReal) : BitVec 32 :=
  IntOp.minsi 63#32 (IntOp.maxsi 0#32 (FloatOps.fptosi (F := Ideal) (φ := .f32) 32
    (Ideal.div (x + 1) (Ideal.ofBits .f32 1073741824#32) * Ideal.ofBits .f32 1115684864#32)))

/-- Clipping a word to 0 … 63 leaves a number below 64. -/
theorem clip_lt (w : BitVec 32) : (IntOp.minsi 63#32 (IntOp.maxsi 0#32 w)).toNat < 64 := by
  have h : BitVec.ult (IntOp.minsi 63#32 (IntOp.maxsi 0#32 w)) 64#32 = true := by
    simp only [IntOp.minsi, IntOp.maxsi]
    split_ifs with h1 h2 h2
    · decide
    · decide
    · decide
    · simp only [BitVec.slt, BitVec.ult, decide_eq_true_eq, Bool.not_eq_true, decide_eq_false_iff_not] at *
      have := BitVec.toInt_eq_toNat_cond w
      simp at h1 h2 ⊢
      split_ifs at this <;> omega
  simpa [BitVec.ult] using h

/-- The segment of `x` as a number below 64. -/
def seg (x : EReal) : Fin 64 := ⟨(word x).toNat, clip_lt _⟩

/-- The segment's word is the word of the segment's number. -/
theorem word_eq (x : EReal) : word x = BitVec.ofNat 32 (seg x).val := by
  simp [seg]

/-- The coordinate of `x` inside its segment, running from -1 to 1. -/
def loc (x : EReal) : EReal :=
  Ideal.ofBits .f32 1073741824#32 * Ideal.div
      (x - (Ideal.div (FloatOps.sitofp (F := Ideal) .f32 (word x)) (Ideal.ofBits .f32 1115684864#32)
        * Ideal.ofBits .f32 1073741824#32 - 1))
      (Ideal.div (FloatOps.sitofp (F := Ideal) .f32 (word x) + 1) (Ideal.ofBits .f32 1115684864#32)
          * Ideal.ofBits .f32 1073741824#32 - 1
        - (Ideal.div (FloatOps.sitofp (F := Ideal) .f32 (word x)) (Ideal.ofBits .f32 1115684864#32)
          * Ideal.ofBits .f32 1073741824#32 - 1)) - 1

/-- The next segment's word, made a float, is one more than the segment's word made a float. -/
theorem next_word (x : EReal) :
    (FloatOps.sitofp (F := Ideal) .f32 (IntOp.addi (word x) 1#32) : EReal)
      = FloatOps.sitofp (F := Ideal) .f32 (word x) + 1 := by
  have h := (seg x).isLt
  rw [word_eq, show (1#32 : BitVec 32) = BitVec.ofNat 32 1 from rfl, WordCmp.addi_ofNat]
  show (((BitVec.ofNat 32 ((seg x).val + 1)).toInt : ℝ) : EReal) = (((BitVec.ofNat 32 (seg x).val).toInt : ℝ) : EReal) + 1
  rw [WordCmp.toInt_ofNat_of_lt (by omega), WordCmp.toInt_ofNat_of_lt (by omega)]
  push_cast
  rfl

/-! ## The value of one feature -/

/-- The entry number `2 s + k` of a row of 129 weights, `s` a segment and `k` one of its three nodes. -/
def node (s : Fin 64) (k : Fin 3) : Fin 129 := ⟨s.val * 2 + k.val, by omega⟩

/-- The curve with weights `w` at the point `x`: the three weights of its segment, each times its coefficient. -/
def piece (x : EReal) (w : Fin 129 → EReal) : EReal :=
  left (loc x) * w (node (seg x) 0) + middle (loc x) * w (node (seg x) 1) + right (loc x) * w (node (seg x) 2)

/-- The word that says how far entry `k` lies after twice the segment `s` is the word `j`, below 3, exactly when `k` is node `j`
    of that segment. -/
theorem offset_eq (s : Fin 64) (k : Fin 129) (j : Fin 3) :
    IntOp.subi (BitVec.ofNat 32 k.val) (IntOp.muli 2#32 (BitVec.ofNat 32 s.val)) = BitVec.ofNat 32 j.val
      ↔ k = node s j := by
  have hk := k.isLt
  have hs := s.isLt
  have hj := j.isLt
  rw [show (2#32 : BitVec 32) = BitVec.ofNat 32 2 from rfl, WordCmp.muli_ofNat, Fin.ext_iff]
  show BitVec.ofNat 32 k.val - BitVec.ofNat 32 (2 * s.val) = BitVec.ofNat 32 j.val ↔ k.val = s.val * 2 + j.val
  rw [← BitVec.toNat_inj, BitVec.toNat_sub]
  simp only [BitVec.toNat_ofNat]
  omega

/-- A choice on "the offset of entry `k` is `j`" is a choice on "`k` is node `j`". -/
theorem choose (s : Fin 64) (k : Fin 129) (j : Fin 3) (a b : EReal) :
    Scalar.select (IntOp.cmpi .eq (IntOp.subi (BitVec.ofNat 32 k.val) (IntOp.muli 2#32 (BitVec.ofNat 32 s.val)))
      (BitVec.ofNat 32 j.val)) a b = if k = node s j then a else b := by
  rw [WordCmp.cmpi_eq_eq, WordCmp.select_decide]
  simp only [offset_eq]

/-- Three coefficients placed at the segment's nodes and zeros elsewhere, summed against all 129 weights, leave the three
    products at the nodes. -/
theorem collapse (s : Fin 64) (a b c : EReal) (w : Fin 129 → EReal) :
    ∑ k : Fin 129, ((if k = node s 0 then a else 0) + (if k = node s 1 then b else 0)
        + (if k = node s 2 then c else 0)) * w k
      = a * w (node s 0) + b * w (node s 1) + c * w (node s 2) := by
  have h01 : node s 0 ≠ node s 1 := by simp [node]
  have h02 : node s 0 ≠ node s 2 := by simp [node]
  have h12 : node s 1 ≠ node s 2 := by simp [node]
  have split : ∀ k : Fin 129, ((if k = node s 0 then a else 0) + (if k = node s 1 then b else 0)
        + (if k = node s 2 then c else 0)) * w k
      = (if k = node s 0 then a * w k else 0) + (if k = node s 1 then b * w k else 0)
        + (if k = node s 2 then c * w k else 0) := by
    intro k
    by_cases e0 : k = node s 0
    · subst e0; simp [h01, h02]
    · by_cases e1 : k = node s 1
      · subst e1; simp [h01.symm, h12]
      · by_cases e2 : k = node s 2
        · subst e2; simp [h02.symm, h12.symm]
        · simp [e0, e1, e2]
  simp only [split, Finset.sum_add_distrib, Finset.sum_ite_eq', Finset.mem_univ, if_true]

end Curve
-- ==== Proof.Feature.lean ====
module

public import proofs.«01_k».proof.Proof.Gen.KernelIdeal.Value
public import proofs.«01_k».proof.Proof.Curve
public import Idealize.ShloMosaic.Lib.Pipeline.ValueKit

/-! What the kernel computes at one grid point: the curve of one feature, for every row and every output. -/

@[expose] public section

set_option maxRecDepth 16384

noncomputable section

open Idealize.ShloMosaic Idealize.ShloMosaic.TcCoe Idealize.SL.Sem

namespace Cert.KernelIdeal.Value
open Cert.KernelIdeal Cert.KernelIdeal.Gen

/-! ## One point's arithmetic, over the block of rows `x` and the block of weights `w` -/

/-- The clipped word of row `b`. -/
theorem word_at (x : Vec Ideal S1x1x2048 .f32) (b : Fin 2048) :
    k0_pay3 x (ix2 0 b) = Curve.word (x (ix3 0 0 b)) := by
  pointwise [k0_pay3, k0_pay2]
  rfl

/-- The local coordinate of row `b`. -/
theorem loc_at (x : Vec Ideal S1x1x2048 .f32) (b : Fin 2048) :
    k0_pay4 x (ix2 0 b) = Curve.loc (x (ix3 0 0 b)) := by
  pointwise [k0_pay4, k0_pay2]
  rw [word_at]
  rfl

/-- The left coefficient of row `b`. -/
theorem left_at (x : Vec Ideal S1x1x2048 .f32) (b : Fin 2048) :
    k0_pay5 x (ix2 0 b) = Curve.left (Curve.loc (x (ix3 0 0 b))) := by
  pointwise [k0_pay5]
  rw [loc_at]
  rfl

/-- The point's result at row `b` and output `o`: the curve with that output's 129 weights, at that row's value. -/
theorem curve_at (x : Vec Ideal S1x1x2048 .f32) (w : Vec Ideal S1x129x64 .f32) (b : Fin 2048) (o : Fin 64) :
    k0_pay6 (k0_pay3 x) (k0_pay4 x) (k0_pay5 x) w (ix2 b o)
      = Curve.piece (x (ix3 0 0 b)) (fun k => w (ix3 0 k o)) := by
  pointwise [k0_pay6]
  rw [word_at, loc_at, left_at, Curve.word_eq]
  have e := fun (k : Fin 129) (j : Fin 3) (a b' : EReal) => Curve.choose (Curve.seg (x (ix3 0 0 b))) k j a b'
  have e0 := fun (k : Fin 129) (a b' : EReal) => e k 0 a b'
  have e1 := fun (k : Fin 129) (a b' : EReal) => e k 1 a b'
  have e2 := fun (k : Fin 129) (a b' : EReal) => e k 2 a b'
  refine (Finset.sum_congr rfl fun k _ => ?_).trans (Curve.collapse (Curve.seg (x (ix3 0 0 b)))
    (Curve.left (Curve.loc (x (ix3 0 0 b)))) (Curve.middle (Curve.loc (x (ix3 0 0 b))))
    (Curve.right (Curve.loc (x (ix3 0 0 b)))) fun k => w (ix3 0 k o))
  exact congrArg (· * w (ix3 0 k o)) (congrArg₂ (· + ·) (congrArg₂ (· + ·) (e0 k _ _) (e1 k _ _)) (e2 k _ _))

/-! ## The blocks, read from the arguments -/

variable (m : (ℓ : Loc nD τ sig) → Buf (Elt Ideal) ℓ)

/-- Point `t` takes row `t` of the transposed points and slice `t` of the transposed weights; the two output weights are
    one block each. -/
theorem blocks : ∀ t : Fin cfg0.N, win0_0.index t = ![t.val, 0, 0] ∧ win0_1.index t = ![t.val, 0, 0]
    ∧ win0_2.index t = ![0, 0] ∧ win0_3.index t = ![0, 0] :=
  (by decide +kernel : ∀ t : Fin grid0.N, _)

/-- The number of a grid point is below 64. -/
theorem point_lt (t : Fin cfg0.N) : t.val < 64 := lt_of_lt_of_eq t.isLt N_0

/-- Row `b` of point `t`'s block of points is the argument's entry at row `b` and feature `t`. -/
theorem points_at (c : Dev nD) (t : Fin cfg0.N) (b : Fin 2048) :
    iblk m c 0 t (ix3 0 0 b) = m ((c : Thread nD τ).loc main_arg0) (ix2 b ⟨t.val, point_lt t⟩) := by
  unfold iblk
  show V m c main_call0_v1 _ = _
  entry_read
  pointwise
  show transpose S64x2048 [1, 0] (m ((c : Thread nD τ).loc main_arg0)) transposes_S2048x64_S64x2048_1_0 _ = _
  pointwise
  blk_point [blocks t]

/-- Entry `k` of output `o` in point `t`'s block of weights is the argument's entry at output `o`, feature `t` and node `k`. -/
theorem weights_at (c : Dev nD) (t : Fin cfg0.N) (k : Fin 129) (o : Fin 64) :
    iblk m c 1 t (ix3 0 k o) = m ((c : Thread nD τ).loc main_arg1) (ix3 o ⟨t.val, point_lt t⟩ k) := by
  unfold iblk
  show V m c main_call0_v2 _ = _
  entry_read
  show transpose S64x129x64 [1, 2, 0] (m ((c : Thread nD τ).loc main_arg1)) transposes_S64x64x129_S64x129x64_1_2_0 _ = _
  pointwise
  blk_point [blocks t]

/-- Entry `o` of the sum's output weights. -/
theorem sumWeight_at (c : Dev nD) (t : Fin cfg0.N) (o : Fin 64) :
    iblk m c 2 t (ix2 0 o) = m ((c : Thread nD τ).loc main_arg2) (ix1 o) := by
  unfold iblk
  show V m c main_call0_v3 _ = _
  entry_read
  pointwise
  blk_point [blocks t]

/-- Entry `o` of the product's output weights. -/
theorem prodWeight_at (c : Dev nD) (t : Fin cfg0.N) (o : Fin 64) :
    iblk m c 3 t (ix2 0 o) = m ((c : Thread nD τ).loc main_arg3) (ix1 o) := by
  unfold iblk
  show V m c main_call0_v4 _ = _
  entry_read
  pointwise
  blk_point [blocks t]

/-- The curve of feature `i` for row `b` and output `o`, of the kernel's arguments. -/
def feature (c : Dev nD) (b : Fin 2048) (o : Fin 64) (i : Fin 64) : EReal :=
  Curve.piece (m ((c : Thread nD τ).loc main_arg0) (ix2 b i))
    (fun k => m ((c : Thread nD τ).loc main_arg1) (ix3 o i k))

/-- What point `t` computes. -/
def part (c : Dev nD) (t : Fin cfg0.N) : FVec Ideal S2048x64 .f32 :=
  k0_pay6 (k0_pay3 (iblk m c 0 t)) (k0_pay4 (iblk m c 0 t)) (k0_pay5 (iblk m c 0 t)) (iblk m c 1 t)

/-- What point `t` computes is feature `t`'s curve. -/
theorem part_at (c : Dev nD) (t : Fin cfg0.N) (b : Fin 2048) (o : Fin 64) :
    part m c t (ix2 b o) = feature m c b o ⟨t.val, point_lt t⟩ := by
  refine (curve_at (iblk m c 0 t) (iblk m c 1 t) b o).trans ?_
  rw [points_at]
  unfold feature
  congr 1
  funext k
  exact weights_at m c t k o

end Cert.KernelIdeal.Value
-- ==== Proof.Fold.lean ====
module

public import proofs.«01_k».proof.Proof.Feature
public import Idealize.ShloMosaic.Lib.Pipeline.ReadBack

/-! The kernel's two running arrays over the 64 grid points, and the array it writes at the last one. -/

@[expose] public section

set_option maxRecDepth 16384

noncomputable section

open Idealize.ShloMosaic Idealize.ShloMosaic.TcCoe Idealize.SL.Sem

namespace Cert.KernelIdeal.Value
open Cert.KernelIdeal Cert.KernelIdeal.Gen

variable (m : (ℓ : Loc nD τ sig) → Buf (Elt Ideal) ℓ)

/-- What a point leaves: the output block, the running sum and the running product. -/
abbrev Carry : Type := Vec Ideal S2048x64 .f32 × Vec Ideal S2048x64 .f32 × Vec Ideal S2048x64 .f32

/-- The first point starts the running sum with its own part. -/
theorem sum_start (c : Dev nD) (t : Fin cfg0.N) (acc : Carry) (h : t.val = 0) (j : S2048x64.Idx) :
    (stAt0 m c t.val t.isLt acc).2.1 j = part m c t j := by
  rw [stAt0_A m c t acc (by omega) (by omega) (by omega)]
  frame_out
  pointwise [k0_pay7]
  rfl

/-- The first point starts the running product with its own part. -/
theorem prod_start (c : Dev nD) (t : Fin cfg0.N) (acc : Carry) (h : t.val = 0) (j : S2048x64.Idx) :
    (stAt0 m c t.val t.isLt acc).2.2 j = part m c t j := by
  rw [stAt0_A m c t acc (by omega) (by omega) (by omega)]
  frame_out
  pointwise [k0_pay8]
  rfl

/-- Every later point adds its part to the running sum. -/
theorem sum_step (c : Dev nD) (t : Fin cfg0.N) (acc : Carry) (h : 1 ≤ t.val) (j : S2048x64.Idx) :
    (show EReal from (stAt0 m c t.val t.isLt acc).2.1 j) = acc.2.1 j + part m c t j := by
  have ht := point_lt t
  by_cases hl : t.val % 64 = 63
  · rw [stAt0_C m c t acc (by omega) h hl]
    frame_out
    pointwise [k0_pay9]
    rw [read_unread_whole]
    rfl
  · rw [stAt0_B m c t acc (by omega) h hl]
    frame_out
    pointwise [k0_pay9]
    rw [read_unread_whole]
    rfl

/-- Every later point multiplies the running product by its part. -/
theorem prod_step (c : Dev nD) (t : Fin cfg0.N) (acc : Carry) (h : 1 ≤ t.val) (j : S2048x64.Idx) :
    (show EReal from (stAt0 m c t.val t.isLt acc).2.2 j) = acc.2.2 j * part m c t j := by
  have ht := point_lt t
  by_cases hl : t.val % 64 = 63
  · rw [stAt0_C m c t acc (by omega) h hl]
    frame_out
    pointwise [k0_pay10]
    rw [read_unread_whole]
    rfl
  · rw [stAt0_B m c t acc (by omega) h hl]
    frame_out
    pointwise [k0_pay10]
    rw [read_unread_whole]
    rfl

/-- The last point writes the finished sum times the sum's weight plus the finished product times the product's weight. -/
theorem last_point (c : Dev nD) (t : Fin cfg0.N) (acc : Carry) (h : t.val = 63) (b : Fin 2048) (o : Fin 64) :
    (show EReal from (stAt0 m c t.val t.isLt acc).1 (ix2 b o))
      = (acc.2.1 (ix2 b o) + part m c t (ix2 b o)) * m ((c : Thread nD τ).loc main_arg2) (ix1 o)
        + (acc.2.2 (ix2 b o) * part m c t (ix2 b o)) * m ((c : Thread nD τ).loc main_arg3) (ix1 o) := by
  rw [stAt0_C m c t acc (by omega) (by omega) (by omega)]
  frame_out
  pointwise [k0_pay1, k0_pay9, k0_pay10]
  rw [sumWeight_at m c t o, prodWeight_at m c t o, read_unread_whole, read_unread_whole]
  rfl

/-- After point `n` the running sum is the sum of the first `n + 1` features. -/
theorem sum_upto (c : Dev nD) (b : Fin 2048) (o : Fin 64) : ∀ (n : ℕ) (hn : 0 + n < cfg0.N),
    (show EReal from (Pipeline.accAt (fun n h => stAt0 m c n h junk0) (stAt0 m c) 0 n hn).2.1 (ix2 b o))
      = ∑ i : Fin (n + 1), feature m c b o ⟨i.val, by have := lt_of_lt_of_eq hn N_0; omega⟩ := by
  intro n
  induction n with
  | zero =>
    intro hn
    rw [Fin.sum_univ_one]
    exact (sum_start m c ⟨0, hn⟩ junk0 rfl (ix2 b o)).trans (part_at m c ⟨0, hn⟩ b o)
  | succ n ih =>
    intro hn
    rw [Fin.sum_univ_castSucc, Pipeline.accAt_succ]
    refine (sum_step m c ⟨0 + (n + 1), hn⟩ _ (by show 1 ≤ 0 + (n + 1); omega) (ix2 b o)).trans ?_
    refine congrArg₂ (· + ·) (ih (Nat.lt_of_succ_lt hn)) ((part_at m c ⟨0 + (n + 1), hn⟩ b o).trans ?_)
    congr 1
    exact Fin.ext (Nat.zero_add _)

/-- After point `n` the running product is the product of the first `n + 1` features. -/
theorem prod_upto (c : Dev nD) (b : Fin 2048) (o : Fin 64) : ∀ (n : ℕ) (hn : 0 + n < cfg0.N),
    (show EReal from (Pipeline.accAt (fun n h => stAt0 m c n h junk0) (stAt0 m c) 0 n hn).2.2 (ix2 b o))
      = ∏ i : Fin (n + 1), feature m c b o ⟨i.val, by have := lt_of_lt_of_eq hn N_0; omega⟩ := by
  intro n
  induction n with
  | zero =>
    intro hn
    rw [Fin.prod_univ_one]
    exact (prod_start m c ⟨0, hn⟩ junk0 rfl (ix2 b o)).trans (part_at m c ⟨0, hn⟩ b o)
  | succ n ih =>
    intro hn
    rw [Fin.prod_univ_castSucc, Pipeline.accAt_succ]
    refine (prod_step m c ⟨0 + (n + 1), hn⟩ _ (by show 1 ≤ 0 + (n + 1); omega) (ix2 b o)).trans ?_
    refine congrArg₂ (· * ·) (ih (Nat.lt_of_succ_lt hn)) ((part_at m c ⟨0 + (n + 1), hn⟩ b o).trans ?_)
    congr 1
    exact Fin.ext (Nat.zero_add _)

/-- What the last point, number `n + 1 = 63`, writes over the fold of the points before it. -/
theorem last_upto (c : Dev nD) (b : Fin 2048) (o : Fin 64) (n : ℕ) (hn : 0 + (n + 1) < cfg0.N) (h : n + 1 = 63) :
    (show EReal from (Pipeline.accAt (fun n h => stAt0 m c n h junk0) (stAt0 m c) 0 (n + 1) hn).1 (ix2 b o))
      = (∑ i : Fin (n + 1 + 1), feature m c b o ⟨i.val, by omega⟩) * m ((c : Thread nD τ).loc main_arg2) (ix1 o)
        + (∏ i : Fin (n + 1 + 1), feature m c b o ⟨i.val, by omega⟩) * m ((c : Thread nD τ).loc main_arg3) (ix1 o) := by
  have hp : part m c ⟨0 + (n + 1), hn⟩ (ix2 b o) = feature m c b o ⟨n + 1, by omega⟩ :=
    (part_at m c ⟨0 + (n + 1), hn⟩ b o).trans (congrArg (feature m c b o) (Fin.ext (Nat.zero_add _)))
  have hsum := sum_upto m c b o n (Nat.lt_of_succ_lt hn)
  have hprod := prod_upto m c b o n (Nat.lt_of_succ_lt hn)
  have hlast := last_point m c ⟨0 + (n + 1), hn⟩
    (Pipeline.accAt (fun n h => stAt0 m c n h junk0) (stAt0 m c) 0 n (Nat.lt_of_succ_lt hn))
    ((Nat.zero_add _).trans h) b o
  dsimp only at hsum hprod hlast
  rw [hsum, hprod, hp] at hlast
  rw [Fin.sum_univ_castSucc, Fin.prod_univ_castSucc, Pipeline.accAt_succ]
  exact hlast

/-- The kernel's array at row `b` and output `o`: the sum of all 64 features times the sum's weight plus their product times
    the product's weight. -/
theorem array_at (c : Dev nD) (b : Fin 2048) (o : Fin 64) :
    (show EReal from G4 m c (ix2 b o))
      = (∑ i : Fin 64, feature m c b o i) * m ((c : Thread nD τ).loc main_arg2) (ix1 o)
        + (∏ i : Fin 64, feature m c b o i) * m ((c : Thread nD τ).loc main_arg3) (ix1 o) := by
  rw [G4_last]
  exact last_upto m c b o 62 _ rfl

end Cert.KernelIdeal.Value
-- ==== Proof.Entry.lean ====
module

public import proofs.«01_k».proof.Proof.Gen.ReferenceIdeal.Run
public import proofs.«01_k».proof.Proof.Curve
public import Idealize.ShloMosaic.Lib.Pipeline.ValueKit
public import Idealize.ShloMosaic.Lib.Routing.Words

/-! The reference's index arrays, and the entry of the weights that one of its gathered positions reads. -/

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Idealize.ShloMosaic.StableHlo

variable (V0 : Valuation τ sig (Elt Ideal))

/-- The segment word of row `b` and feature `i`. -/
theorem word_at (b : Fin 2048) (i : Fin 64) :
    res_main_v7 V0 (ix2 b i) = Curve.word (V0 (Proc.tc.devRef main_arg0) (ix2 b i)) := by
  pointwise [res_main_v7]
  rfl

/-- The local coordinate of row `b` and feature `i`. -/
theorem loc_at (b : Fin 2048) (i : Fin 64) :
    res_main_v59 V0 (ix2 b i) = Curve.loc (V0 (Proc.tc.devRef main_arg0) (ix2 b i)) := by
  pointwise [res_main_v59, res_main_v45]
  rw [word_at]
  have h := Curve.next_word (V0 (Proc.tc.devRef main_arg0) (ix2 b i))
  unfold Curve.loc
  rw [← h]

/-- Position `p` of the flat index array belongs to feature `p / 3 % 64`. -/
theorem featureWord_at (p : Fin 393216) :
    res_main_v21 V0 (ix1 p) = BitVec.ofNat 32 (p.val / 3 % 64) := by
  have hp := p.isLt
  unfold res_main_v21
  exact Routing.pyRem_ap _ _ _ (ix1 p)
    (Routing.pyDiv_ap _ _ (constantI S_ 32 3#32) (ix1 p) (b := 3) rfl rfl (by omega) (by decide) (by decide)) rfl
    (b := 64) (by omega) (by decide) (by decide)

/-- Position `p` of the flat index array holds twice the segment of its row and feature plus `p % 3`. -/
theorem nodeWord_at (p : Fin 393216) (b : Fin 2048) (i : Fin 64) (k : Fin 3) (h : p.val = b.val * 192 + i.val * 3 + k.val) :
    res_main_v22 V0 (ix1 p)
      = BitVec.ofNat 32 (Curve.node (Curve.seg (V0 (Proc.tc.devRef main_arg0) (ix2 b i))) k).val := by
  have hb := b.isLt
  have hi := i.isLt
  have hk := k.isLt
  pointwise [res_main_v22]
  have e0 : (⟨p.val / 3 / 64, by omega⟩ : Fin 2048) = b := Fin.ext (by show p.val / 3 / 64 = b.val; omega)
  have e1 : (⟨p.val / 3 % 64, by omega⟩ : Fin 64) = i := Fin.ext (by show p.val / 3 % 64 = i.val; omega)
  rw [e0, e1, word_at, Curve.word_eq, show (2#32 : BitVec 32) = BitVec.ofNat 32 2 from rfl, WordCmp.muli_ofNat, WordCmp.addi_ofNat,
    show p.val % 3 = k.val by omega]
  rfl

/-- The gather reads at output `o` and position `p` the weight of that output at the feature and the node that the position's two
    index words hold. -/
theorem gather_at (x : Vec Ideal S64x64x129 .f32) (idx : IVec S393216x2 32) (o : Fin 64) (p : Fin 393216) (i : Fin 64) (k : Fin 129)
    (h0 : idx (ix2 p 0) = BitVec.ofNat 32 i.val) (h1 : idx (ix2 p 1) = BitVec.ofNat 32 k.val) :
    Host.gather gather_S64x64x129_S393216x2_S64x393216_0_12_n_n_12_1_6411 x idx (ix2 o p) = x (ix3 o i k) := by
  have hi := i.isLt
  have hk := k.isLt
  unfold Host.gather
  refine congrArg x (funext fun a => Fin.ext ?_)
  match a with
  | ⟨0, _⟩ =>
    show 0 + 0 + o.val = o.val
    omega
  | ⟨1, _⟩ =>
    show min (idx _).toInt.toNat 63 + 0 + 0 = i.val
    rw [show idx _ = BitVec.ofNat 32 i.val from (congrArg idx (funext fun a => Fin.ext (by
      match a with
      | ⟨0, _⟩ => rfl
      | ⟨1, _⟩ => rfl))).trans h0, WordCmp.toInt_ofNat_of_lt (by omega)]
    omega
  | ⟨2, _⟩ =>
    show min (idx _).toInt.toNat 128 + 0 + 0 = k.val
    rw [show idx _ = BitVec.ofNat 32 k.val from (congrArg idx (funext fun a => Fin.ext (by
      match a with
      | ⟨0, _⟩ => rfl
      | ⟨1, _⟩ => rfl))).trans h1, WordCmp.toInt_ofNat_of_lt (by omega)]
    omega

/-- A small word that is not negative stays as it is when negative words would be moved up by `n`. -/
theorem wrap_small (a n : ℕ) (h : a < 2 ^ 31) :
    Scalar.select (IntOp.cmpi .slt (BitVec.ofNat 32 a) 0#32) (IntOp.addi (BitVec.ofNat 32 a) (BitVec.ofNat 32 n)) (BitVec.ofNat 32 a)
      = BitVec.ofNat 32 a := by
  rw [show (0#32 : BitVec 32) = BitVec.ofNat 32 0 from rfl, WordCmp.cmpi_slt_ofNat (by omega) (by decide), WordCmp.select_decide,
    if_neg (by omega)]

/-- The array of index pairs: the features `u` and the nodes `v`, negative words moved up by the length of their axis. -/
def pairs (u v : IVec S393216 32) : IVec S393216x2 32 :=
  concatenate S393216x2 1
    [⟨S393216x1, broadcastInDim S393216x1 ![0] bcast_S393216_S393216x1_0
        (select (cmpi .slt u (broadcastInDim S393216 ![] bcast_S_S393216 (constantI S_ 32 0#32)))
          (addi u (broadcastInDim S393216 ![] bcast_S_S393216 (constantI S_ 32 64#32))) u)⟩,
      ⟨S393216x1, broadcastInDim S393216x1 ![0] bcast_S393216_S393216x1_0
        (select (cmpi .slt v (broadcastInDim S393216 ![] bcast_S_S393216 (constantI S_ 32 0#32)))
          (addi v (broadcastInDim S393216 ![] bcast_S_S393216 (constantI S_ 32 129#32))) v)⟩]
    concatenates_S393216x1_S393216x1_S393216x2_d1

/-- A pair's first word is the feature's, when that is a small number. -/
theorem pairs_first (u v : IVec S393216 32) (p : Fin 393216) (a : ℕ) (ha : a < 2 ^ 31) (h : u (ix1 p) = BitVec.ofNat 32 a) :
    pairs u v (ix2 p 0) = BitVec.ofNat 32 a := by
  pointwise [pairs]
  rw [h]
  exact wrap_small a 64 ha

/-- A pair's second word is the node's, when that is a small number. -/
theorem pairs_second (u v : IVec S393216 32) (p : Fin 393216) (a : ℕ) (ha : a < 2 ^ 31) (h : v (ix1 p) = BitVec.ofNat 32 a) :
    pairs u v (ix2 p 1) = BitVec.ofNat 32 a := by
  pointwise [pairs]
  rw [h]
  exact wrap_small a 129 ha

/-- The gathered weight of output `o` at the position of row `b`, feature `i` and basis function `k` is that output's weight at
    feature `i` and node `k` of the row's segment. -/
theorem gathered_at (b : Fin 2048) (i o : Fin 64) (k : Fin 3) (p : Fin 393216) (h : p.val = b.val * 192 + i.val * 3 + k.val) :
    Host.gather gather_S64x64x129_S393216x2_S64x393216_0_12_n_n_12_1_6411 (V0 (Proc.tc.devRef main_arg1))
        (pairs (res_main_v21 V0) (res_main_v22 V0)) (ix2 o p)
      = V0 (Proc.tc.devRef main_arg1) (ix3 o i (Curve.node (Curve.seg (V0 (Proc.tc.devRef main_arg0) (ix2 b i))) k)) := by
  have hi := i.isLt
  have hk := k.isLt
  have e : p.val / 3 % 64 = i.val := by omega
  refine gather_at _ _ o p i _ (pairs_first _ _ p i.val (by omega) ?_)
    (pairs_second _ _ p _ (by have := (Curve.node (Curve.seg (V0 (Proc.tc.devRef main_arg0) (ix2 b i))) k).isLt; omega) ?_)
  · rw [featureWord_at, e]
  · exact nodeWord_at V0 p b i k h

/-- The interpolation nodes are -1, 0 and 1. -/
theorem nodes_at : (show EReal from res_main_cst V0 (ix1 0)) = ((-1 : ℝ) : EReal)
    ∧ (show EReal from res_main_cst V0 (ix1 1)) = ((0 : ℝ) : EReal)
    ∧ (show EReal from res_main_cst V0 (ix1 2)) = ((1 : ℝ) : EReal) :=
  ⟨Curve.negOne_eq, Curve.zero_eq, Curve.one_eq⟩

/-- The reference's array of features at row `b`, feature `i` and output `o`: the curve with that output's weights at that row's
    value. -/
theorem feature_at (b : Fin 2048) (i o : Fin 64) :
    res_main_v133 V0 (ix3 b i o)
      = Curve.piece (V0 (Proc.tc.devRef main_arg0) (ix2 b i)) (fun k => V0 (Proc.tc.devRef main_arg1) (ix3 o i k)) := by
  have hb := b.isLt
  have hi := i.isLt
  have g := fun (k : Fin 3) => gathered_at V0 b i o k ⟨b.val * 192 + i.val * 3 + k.val, by have := k.isLt; omega⟩ rfl
  obtain ⟨n0, n1, n2⟩ := nodes_at V0
  unfold Curve.piece
  beta_reduce
  rw [← loc_at, ← g 0, ← g 1, ← g 2, ← Curve.left_basis, ← Curve.middle_basis, ← Curve.right_basis,
    ← n0, ← n1, ← n2]
  pointwise [res_main_v133]
  rw [Fin.sum_univ_three]
  rfl

end Cert.ReferenceIdeal.Value
-- ==== Proof.Halves.lean ====
module

public import proofs.«01_k».proof.Proof.Entry

/-! The reference's result at an index: its product of features by halves is the product of all 64, its sum is the sum of all 64. -/

@[expose] public section

set_option maxRecDepth 16384

noncomputable section

open Idealize.ShloMosaic Idealize.ShloMosaic.TcCoe Idealize.SL.Sem

namespace Cert.ReferenceIdeal.Value
open Cert.ReferenceIdeal Cert.ReferenceIdeal.Gen Idealize.ShloMosaic.StableHlo

variable (V0 : Valuation τ sig (Elt Ideal))

/-- If each factor of a product is the product of a factor from the lower half and one from the upper half of a list twice as
    long, the two products are equal. -/
theorem prod_halves {n : ℕ} (g : Fin n → EReal) (f : Fin (n + n) → EReal)
    (h : ∀ i, g i = f (Fin.castAdd n i) * f (Fin.natAdd n i)) : ∏ i, g i = ∏ i, f i := by
  rw [Fin.prod_univ_add, ← Finset.prod_mul_distrib]
  exact Finset.prod_congr rfl fun i _ => h i

/-- The curve of feature `i` for row `b` and output `o`, of the reference's arguments. -/
def feature (b : Fin 2048) (o : Fin 64) (i : Fin 64) : EReal :=
  Curve.piece (V0 (Proc.tc.devRef main_arg0) (ix2 b i)) (fun k => V0 (Proc.tc.devRef main_arg1) (ix3 o i k))

/-! ## What each halving leaves, for one row and one output -/

/-- The 32 entries after the first halving. -/
def row32 (b : Fin 2048) (o : Fin 64) (i : Fin 32) : EReal := res_main_v137 V0 (ix3 b i o)

/-- The 16 entries after the second halving. -/
def row16 (b : Fin 2048) (o : Fin 64) (i : Fin 16) : EReal := res_main_v140 V0 (ix3 b i o)

/-- The 8 entries after the third halving. -/
def row8 (b : Fin 2048) (o : Fin 64) (i : Fin 8) : EReal := res_main_v143 V0 (ix3 b i o)

/-- The 4 entries after the fourth halving. -/
def row4 (b : Fin 2048) (o : Fin 64) (i : Fin 4) : EReal := res_main_v146 V0 (ix3 b i o)

/-- The 2 entries after the fifth halving. -/
def row2 (b : Fin 2048) (o : Fin 64) (i : Fin 2) : EReal := res_main_v149 V0 (ix3 b i o)

/-- The first halving multiplies features 32 apart. -/
theorem half32 (b : Fin 2048) (o : Fin 64) (i : Fin 32) :
    row32 V0 b o i = feature V0 b o (Fin.castAdd 32 i) * feature V0 b o (Fin.natAdd 32 i) := by
  unfold row32 feature
  rw [← feature_at, ← feature_at]
  pointwise [res_main_v137]
  rfl

/-- The second halving multiplies entries 16 apart. -/
theorem half16 (b : Fin 2048) (o : Fin 64) (i : Fin 16) :
    row16 V0 b o i = row32 V0 b o (Fin.castAdd 16 i) * row32 V0 b o (Fin.natAdd 16 i) := by
  unfold row16 row32
  pointwise [res_main_v140]
  rfl

/-- The third halving multiplies entries 8 apart. -/
theorem half8 (b : Fin 2048) (o : Fin 64) (i : Fin 8) :
    row8 V0 b o i = row16 V0 b o (Fin.castAdd 8 i) * row16 V0 b o (Fin.natAdd 8 i) := by
  unfold row8 row16
  pointwise [res_main_v143]
  rfl

/-- The fourth halving multiplies entries 4 apart. -/
theorem half4 (b : Fin 2048) (o : Fin 64) (i : Fin 4) :
    row4 V0 b o i = row8 V0 b o (Fin.castAdd 4 i) * row8 V0 b o (Fin.natAdd 4 i) := by
  unfold row4 row8
  pointwise [res_main_v146]
  rfl

/-- The fifth halving multiplies entries 2 apart. -/
theorem half2 (b : Fin 2048) (o : Fin 64) (i : Fin 2) :
    row2 V0 b o i = row4 V0 b o (Fin.castAdd 2 i) * row4 V0 b o (Fin.natAdd 2 i) := by
  unfold row2 row4
  pointwise [res_main_v149]
  rfl

/-- The two entries left by the fifth halving multiply to the product of all 64 features. -/
theorem prod_all (b : Fin 2048) (o : Fin 64) : row2 V0 b o 0 * row2 V0 b o 1 = ∏ i : Fin 64, feature V0 b o i := by
  rw [← Fin.prod_univ_two]
  exact (prod_halves _ _ (half2 V0 b o)).trans ((prod_halves _ _ (half4 V0 b o)).trans
    ((prod_halves _ _ (half8 V0 b o)).trans ((prod_halves _ _ (half16 V0 b o)).trans (prod_halves _ _ (half32 V0 b o)))))

/-- The reference's result over its arguments, as its run leaves it. -/
def result : FVec Ideal S2048x64 .f32 :=
  addf (mulf (Host.reduceAdd (res_main_v133 V0) (constant S_ .f32 0x00000000#32) reducesTo_S2048x64x64_S2048x64_d1 h_S_)
      (broadcastInDim S2048x64 ![0, 1] bcast_S1x64_S2048x64_0_1
        (broadcastInDim S1x64 ![1] bcast_S64_S1x64_1 (V0 (Proc.devRef .tc main_arg2)))))
    (mulf (shapeCast _ (mulf (extractStridedSlice S2048x1x64 ![0, 0, 0] (res_main_v149 V0) slices_S2048x2x64_S2048x1x64_0_0_0)
          (extractStridedSlice S2048x1x64 ![0, 1, 0] (res_main_v149 V0) slices_S2048x2x64_S2048x1x64_0_1_0))
        shapeCasts_S2048x1x64_S2048x64)
      (broadcastInDim S2048x64 ![0, 1] bcast_S1x64_S2048x64_0_1
        (broadcastInDim S1x64 ![1] bcast_S64_S1x64_1 (V0 (Proc.devRef .tc main_arg3)))))

/-- The reference's result at row `b` and output `o`: the sum of all 64 features times the sum's weight plus their product times
    the product's weight. -/
theorem result_at (b : Fin 2048) (o : Fin 64) :
    (show EReal from result V0 (ix2 b o))
      = (∑ i : Fin 64, feature V0 b o i) * V0 (Proc.devRef .tc main_arg2) (ix1 o)
        + (∏ i : Fin 64, feature V0 b o i) * V0 (Proc.devRef .tc main_arg3) (ix1 o) := by
  rw [← prod_all]
  unfold row2 feature
  simp only [← feature_at]
  pointwise [result]

end Cert.ReferenceIdeal.Value
-- ==== Proof.Equation.lean ====
module

public import proofs.«01_k».proof.Defs
public import proofs.«01_k».proof.Proof.Gen.Kernel.Frame
public import proofs.«01_k».proof.Proof.Fold
public import proofs.«01_k».proof.Proof.Halves
public import Idealize.ShloMosaic.Lib.Quiescent

/-! The claims: the three frames, and the equation of the two arrays over equal arguments. -/

@[expose] public section

set_option maxRecDepth 16384

noncomputable section

open Idealize.ShloMosaic Idealize.ShloMosaic.TcCoe Idealize.SL.Sem

namespace Cert.Proof

/-- The kernel keeps its arguments and leaves no counter raised. -/
theorem frame_kernel : Cert.quiescent_Kernel := fun m ρ _ => Cert.Kernel.Gen.frame m ρ

/-- The kernel over the extended reals keeps its arguments and leaves no counter raised. -/
theorem frame_kernelIdeal : Cert.quiescent_KernelIdeal := fun m ρ _ => Cert.KernelIdeal.Gen.frame m ρ

/-- The reference over the extended reals keeps its arguments; it has no counters. -/
theorem frame_referenceIdeal : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Over equal arguments every feature of the reference is the kernel's. -/
theorem features_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (b : Fin 2048) (o i : Fin 64) :
    Cert.ReferenceIdeal.Value.feature (StableHlo.launchContents m' c) b o i = Cert.KernelIdeal.Value.feature m c b o i :=
  congrArg₂ Curve.piece (congrFun h0 (ix2 b i)) (funext fun k => congrFun h1 (ix3 o i k))

/-- Over equal arguments the reference's result is the kernel's array. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.result (StableHlo.launchContents m' c) = Cert.KernelIdeal.Value.G4 m c := by
  funext j
  obtain ⟨b, o, rfl⟩ : ∃ (b : Fin 2048) (o : Fin 64), j = ix2 b o :=
    ⟨j 0, j 1, funext fun a => match a with | ⟨0, _⟩ => rfl | ⟨1, _⟩ => rfl⟩
  have hr := Cert.ReferenceIdeal.Value.result_at (StableHlo.launchContents m' c) b o
  have hk := Cert.KernelIdeal.Value.array_at m c b o
  simp only [features_eq m m' c h0 h1] at hr
  refine hr.trans (Eq.trans ?_ hk.symm)
  exact congrArg₂ (· + ·) (congrArg (_ * ·) (congrFun h2 (ix1 o))) (congrArg (_ * ·) (congrFun h3 (ix1 o)))

/-- The kernel and the reference, over equal arguments, end with the same array. -/
theorem equation : Cert.algebraic_KernelIdeal_ReferenceIdeal := by
  intro m ρ m' ρ' _ hag
  exact ⟨fun c => Cert.KernelIdeal.Value.G4 m c, Cert.KernelIdeal.Value.run m ρ,
    (θ_run _ _ _).mono (fun _ h c => ⟨(h c).1.trans
      (arrays_eq m m' c (hag c).1 (hag c).2.1 (hag c).2.2.1 (hag c).2.2.2), (h c).2⟩) (Cert.ReferenceIdeal.Value.run m' ρ')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  frame_kernel, frame_kernelIdeal, frame_referenceIdeal, trivial, equation⟩

end Cert.Proof

end
